-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048x255 : Shape := ⟨2, ![2048, 255]⟩
abbrev S255 : Shape := ⟨1, ![255]⟩
abbrev S255x256 : Shape := ⟨2, ![255, 256]⟩
abbrev S1x255 : Shape := ⟨2, ![1, 255]⟩
abbrev S8192x256 : Shape := ⟨2, ![8192, 256]⟩
abbrev S2048x2048 : Shape := ⟨2, ![2048, 2048]⟩
abbrev S2048x256 : Shape := ⟨2, ![2048, 256]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x255, .f32⟩
  | .hbm, ⟨2, _⟩ => ⟨S255, .f32⟩
  | .hbm, ⟨3, _⟩ => ⟨S255x256, .f32⟩
  | .hbm, ⟨4, _⟩ => ⟨S255x256, .f32⟩
  | .hbm, ⟨5, _⟩ => ⟨S1x255, .f32⟩
  | .hbm, ⟨6, _⟩ => ⟨S8192x256, .f32⟩
  | .local _ .vmem, ⟨0, _⟩ => ⟨S2048x2048, .f32⟩
  | .local _ .vmem, ⟨1, _⟩ => ⟨S2048x2048, .f32⟩
  | .local _ .vmem, ⟨2, _⟩ => ⟨S2048x255, .f32⟩
  | .local _ .vmem, ⟨3, _⟩ => ⟨S1x255, .f32⟩
  | .local _ .vmem, ⟨4, _⟩ => ⟨S255x256, .f32⟩
  | .local _ .vmem, ⟨5, _⟩ => ⟨S255x256, .f32⟩
  | .local _ .vmem, ⟨6, _⟩ => ⟨S2048x256, .f32⟩
  | .local _ .vmem, ⟨7, _⟩ => ⟨S2048x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_cst_0 : Ref sig .tc := ⟨.hbm, 4, rfl⟩
abbrev main_call0_v0 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x255 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x255 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S255x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S255x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8192x2048 : Shape := ⟨2, ![8192, 2048]⟩
abbrev S2048x255 : Shape := ⟨2, ![2048, 255]⟩
abbrev S255 : Shape := ⟨1, ![255]⟩
abbrev S256x8 : Shape := ⟨2, ![256, 8]⟩
abbrev S8192x255 : Shape := ⟨2, ![8192, 255]⟩
abbrev S1x255 : Shape := ⟨2, ![1, 255]⟩
abbrev S_ : Shape := ⟨0, ![]⟩
abbrev S256x8x1 : Shape := ⟨3, ![256, 8, 1]⟩
abbrev S8192x256x8 : Shape := ⟨3, ![8192, 256, 8]⟩
abbrev S1x256x8 : Shape := ⟨3, ![1, 256, 8]⟩
abbrev S8192x256x1 : Shape := ⟨3, ![8192, 256, 1]⟩
abbrev S8192x256 : Shape := ⟨2, ![8192, 256]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x255, .f32⟩
  | .hbm, ⟨2, _⟩ => ⟨S255, .f32⟩
  | .hbm, ⟨3, _⟩ => ⟨S256x8, .i32⟩
  | .hbm, ⟨4, _⟩ => ⟨S256x8, .f32⟩
  | .hbm, ⟨5, _⟩ => ⟨S8192x255, .f32⟩
  | .hbm, ⟨6, _⟩ => ⟨S1x255, .f32⟩
  | .hbm, ⟨7, _⟩ => ⟨S8192x255, .f32⟩
  | .hbm, ⟨8, _⟩ => ⟨S8192x255, .f32⟩
  | .hbm, ⟨9, _⟩ => ⟨S8192x255, .f32⟩
  | .hbm, ⟨10, _⟩ => ⟨S8192x255, .f32⟩
  | .hbm, ⟨11, _⟩ => ⟨S_, .f32⟩
  | .hbm, ⟨12, _⟩ => ⟨S8192x255, .f32⟩
  | .hbm, ⟨13, _⟩ => ⟨S8192x255, .f32⟩
  | .hbm, ⟨14, _⟩ => ⟨S_, .f32⟩
  | .hbm, ⟨15, _⟩ => ⟨S8192x255, .f32⟩
  | .hbm, ⟨16, _⟩ => ⟨S8192x255, .f32⟩
  | .hbm, ⟨17, _⟩ => ⟨S_, .i32⟩
  | .hbm, ⟨18, _⟩ => ⟨S256x8, .i32⟩
  | .hbm, ⟨19, _⟩ => ⟨S256x8, .i1⟩
  | .hbm, ⟨20, _⟩ => ⟨S_, .i32⟩
  | .hbm, ⟨21, _⟩ => ⟨S256x8, .i32⟩
  | .hbm, ⟨22, _⟩ => ⟨S256x8, .i32⟩
  | .hbm, ⟨23, _⟩ => ⟨S256x8, .i32⟩
  | .hbm, ⟨24, _⟩ => ⟨S256x8x1, .i32⟩
  | .hbm, ⟨25, _⟩ => ⟨S8192x256x8, .f32⟩
  | .hbm, ⟨26, _⟩ => ⟨S_, .f32⟩
  | .hbm, ⟨27, _⟩ => ⟨S256x8, .f32⟩
  | .hbm, ⟨28, _⟩ => ⟨S256x8, .f32⟩
  | .hbm, ⟨29, _⟩ => ⟨S1x256x8, .f32⟩
  | .hbm, ⟨30, _⟩ => ⟨S8192x256x8, .f32⟩
  | .hbm, ⟨31, _⟩ => ⟨S8192x256x8, .f32⟩
  | .hbm, ⟨32, _⟩ => ⟨S_, .f32⟩
  | .hbm, ⟨33, _⟩ => ⟨S8192x256x8, .f32⟩
  | .hbm, ⟨34, _⟩ => ⟨S8192x256x8, .f32⟩
  | .hbm, ⟨35, _⟩ => ⟨S1x256x8, .f32⟩
  | .hbm, ⟨36, _⟩ => ⟨S8192x256x8, .f32⟩
  | .hbm, ⟨37, _⟩ => ⟨S8192x256x8, .f32⟩
  | .hbm, ⟨38, _⟩ => ⟨S8192x256x8, .f32⟩
  | .hbm, ⟨39, _⟩ => ⟨S8192x256x1, .f32⟩
  | .hbm, ⟨40, _⟩ => ⟨S8192x256, .f32⟩
  | .hbm, ⟨41, _⟩ => ⟨S8192x256x1, .f32⟩
  | .hbm, ⟨42, _⟩ => ⟨S8192x256, .f32⟩
  | .hbm, ⟨43, _⟩ => ⟨S8192x256, .f32⟩
  | .hbm, ⟨44, _⟩ => ⟨S8192x256x1, .f32⟩
  | .hbm, ⟨45, _⟩ => ⟨S8192x256, .f32⟩
  | .hbm, ⟨46, _⟩ => ⟨S8192x256, .f32⟩
  | .hbm, ⟨47, _⟩ => ⟨S8192x256x1, .f32⟩
  | .hbm, ⟨48, _⟩ => ⟨S8192x256, .f32⟩
  | .hbm, ⟨49, _⟩ => ⟨S8192x256, .f32⟩
  | .hbm, ⟨50, _⟩ => ⟨S8192x256x1, .f32⟩
  | .hbm, ⟨51, _⟩ => ⟨S8192x256, .f32⟩
  | .hbm, ⟨52, _⟩ => ⟨S8192x256, .f32⟩
  | .hbm, ⟨53, _⟩ => ⟨S8192x256x1, .f32⟩
  | .hbm, ⟨54, _⟩ => ⟨S8192x256, .f32⟩
  | .hbm, ⟨55, _⟩ => ⟨S8192x256, .f32⟩
  | .hbm, ⟨56, _⟩ => ⟨S8192x256x1, .f32⟩
  | .hbm, ⟨57, _⟩ => ⟨S8192x256, .f32⟩
  | .hbm, ⟨58, _⟩ => ⟨S8192x256, .f32⟩
  | .hbm, ⟨59, _⟩ => ⟨S8192x256x1, .f32⟩
  | .hbm, ⟨60, _⟩ => ⟨S8192x256, .f32⟩
  | .hbm, ⟨61, _⟩ => ⟨S8192x256, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Proof.Softplus.lean ====
/- One routing decision over the extended reals: the two softplus terms of a score `z` are the negative
   logarithms of the sigmoid of `z` and of its complement, at the infinities too. -/
module

public import Idealize.ShloMosaic.PureOps.Ideal

@[expose] public section

noncomputable section

namespace Cert.Tree

open Idealize.ShloMosaic

/-- The term that the kernel adds for a step to the left: `log (1 + e^(-|z|)) + max (-z) 0`. -/
def softLeft (z : EReal) : EReal := Ideal.log1p (Ideal.exp (0 - max z (-z))) + max (0 - z) 0

/-- The term that the kernel adds for a step to the right: `log (1 + e^(-|z|)) + max z 0`. -/
def softRight (z : EReal) : EReal := Ideal.log1p (Ideal.exp (0 - max z (-z))) + max z 0

/-- The probability of a step to the left: the sigmoid `1 / (1 + e^(-z))`. -/
def prob (z : EReal) : EReal := Ideal.div 1 (1 + Ideal.exp (-z))

/-- The sigmoid of plus infinity is 1. -/
theorem prob_top : prob ⊤ = 1 := Ideal.logistic_top

/-- The sigmoid of minus infinity is 0. -/
theorem prob_bot : prob ⊥ = 0 := Ideal.logistic_bot

/-- The sigmoid of a real score, a real number. -/
theorem prob_coe (r : ℝ) : prob r = (((1 + Real.exp (-r))⁻¹ : ℝ) : EReal) := Ideal.logistic_coe r

/-- The larger of two reals, read in the extended reals. -/
theorem coe_max (r t : ℝ) : ((max r t : ℝ) : EReal) = max (r : EReal) t :=
  EReal.coe_strictMono.monotone.map_max

/-- `log (1 + e^(-|r|))` of a real score, a real number. -/
theorem log1p_coe (r : ℝ) :
    Ideal.log1p (Ideal.exp (0 - max (r : EReal) (-r))) = ((Real.log (1 + Real.exp (-|r|)) : ℝ) : EReal) := by
  have h : (0 : EReal) - max (r : EReal) (-r) = ((-|r| : ℝ) : EReal) := by
    rw [← EReal.coe_neg, ← coe_max, zero_sub, ← EReal.coe_neg]; rfl
  have hp : ¬ (1 + Real.exp (-|r|) ≤ 0) := not_le.2 (by positivity)
  rw [h, Ideal.log1p, Ideal.exp_coe, ← EReal.coe_one, ← EReal.coe_add, Ideal.log_coe, if_neg hp]

/-- The left term of a real score, a real number. -/
theorem softLeft_coe (r : ℝ) :
    softLeft r = ((Real.log (1 + Real.exp (-|r|)) + max (-r) 0 : ℝ) : EReal) := by
  rw [softLeft, log1p_coe, EReal.coe_add, coe_max, zero_sub]; rfl

/-- The right term of a real score, a real number. -/
theorem softRight_coe (r : ℝ) :
    softRight r = ((Real.log (1 + Real.exp (-|r|)) + max r 0 : ℝ) : EReal) := by
  rw [softRight, log1p_coe, EReal.coe_add, coe_max]; rfl

/-- At an infinite score the common term vanishes: it is `log 1`. -/
theorem log1p_zero : Ideal.log1p 0 = 0 := by
  have h : (1 : EReal) + 0 = ((1 : ℝ) : EReal) := by simp
  rw [Ideal.log1p, h, Ideal.log_coe, if_neg (by norm_num), Real.log_one, EReal.coe_zero]

/-- The left term of plus infinity is 0. -/
theorem softLeft_top : softLeft ⊤ = 0 := by
  simp [softLeft, log1p_zero]

/-- The left term of minus infinity is plus infinity. -/
theorem softLeft_bot : softLeft ⊥ = ⊤ := by
  simp [softLeft, log1p_zero]

/-- The right term of plus infinity is plus infinity. -/
theorem softRight_top : softRight ⊤ = ⊤ := by
  simp [softRight, log1p_zero]

/-- The right term of minus infinity is 0. -/
theorem softRight_bot : softRight ⊥ = 0 := by
  simp [softRight, log1p_zero]

/-- The common term of a real score is not negative. -/
theorem log_nonneg (r : ℝ) : 0 ≤ Real.log (1 + Real.exp (-|r|)) :=
  Real.log_nonneg (by have := Real.exp_pos (-|r|); linarith)

/-- A left term is nowhere negative. -/
theorem softLeft_nonneg (z : EReal) : 0 ≤ softLeft z := by
  induction z using EReal.rec with
  | bot => rw [softLeft_bot]; exact le_top
  | top => rw [softLeft_top]
  | coe r =>
    rw [softLeft_coe, EReal.coe_nonneg]
    exact add_nonneg (log_nonneg r) (le_max_right _ _)

/-- A right term is nowhere negative. -/
theorem softRight_nonneg (z : EReal) : 0 ≤ softRight z := by
  induction z using EReal.rec with
  | bot => rw [softRight_bot]
  | top => rw [softRight_top]; exact le_top
  | coe r =>
    rw [softRight_coe, EReal.coe_nonneg]
    exact add_nonneg (log_nonneg r) (le_max_right _ _)

/-- `e^(-t)` for a real `t = log u + v` with `u` positive. -/
theorem exp_neg_log_add {u v : ℝ} (hu : 0 < u) : Real.exp (-(Real.log u + v)) = u⁻¹ * Real.exp (-v) := by
  rw [neg_add, Real.exp_add, Real.exp_neg, Real.exp_log hu]

/-- The exponential of minus the left term is the sigmoid. -/
theorem exp_softLeft (z : EReal) : Ideal.exp (0 - softLeft z) = prob z := by
  induction z using EReal.rec with
  | bot => rw [softLeft_bot, prob_bot, zero_sub, EReal.neg_top, Ideal.exp_bot]
  | top => rw [softLeft_top, prob_top, sub_zero, ← EReal.coe_zero, Ideal.exp_coe, Real.exp_zero, EReal.coe_one]
  | coe r =>
    rw [softLeft_coe, prob_coe, zero_sub, ← EReal.coe_neg, Ideal.exp_coe, EReal.coe_eq_coe_iff,
      exp_neg_log_add (by positivity)]
    rcases le_total 0 r with h | h
    · rw [abs_of_nonneg h, max_eq_right (by linarith), neg_zero, Real.exp_zero, mul_one]
    · have hp := Real.exp_pos r
      rw [abs_of_nonpos h, max_eq_left (by linarith), neg_neg, Real.exp_neg]
      field_simp
      ring

/-- The exponential of minus the right term is the sigmoid's complement. -/
theorem exp_softRight (z : EReal) : Ideal.exp (0 - softRight z) = 1 - prob z := by
  induction z using EReal.rec with
  | bot =>
    rw [softRight_bot, prob_bot, sub_zero, sub_zero, ← EReal.coe_zero, Ideal.exp_coe, Real.exp_zero, EReal.coe_one]
  | top =>
    rw [softRight_top, prob_top, zero_sub, EReal.neg_top, Ideal.exp_bot, ← EReal.coe_one, ← EReal.coe_sub, sub_self,
      EReal.coe_zero]
  | coe r =>
    rw [softRight_coe, prob_coe, zero_sub, ← EReal.coe_neg, Ideal.exp_coe, ← EReal.coe_one, ← EReal.coe_sub,
      EReal.coe_eq_coe_iff, exp_neg_log_add (by positivity)]
    rcases le_total 0 r with h | h
    · have hp := Real.exp_pos (-r)
      rw [abs_of_nonneg h, max_eq_left h]
      field_simp
      ring
    · have hp := Real.exp_pos r
      rw [abs_of_nonpos h, max_eq_right h, neg_neg, neg_zero, Real.exp_zero, mul_one, Real.exp_neg]
      field_simp
      ring

/-- `e^(-(a + b)) = e^(-a) · e^(-b)` for terms that are not negative, infinite ones included. -/
theorem exp_neg_add {a b : EReal} (ha : 0 ≤ a) (hb : 0 ≤ b) :
    Ideal.exp (0 - (a + b)) = Ideal.exp (0 - a) * Ideal.exp (0 - b) := by
  induction a using EReal.rec with
  | bot => exact absurd ha (by simp)
  | top =>
    rw [EReal.top_add_of_ne_bot (by rintro rfl; exact absurd hb (by simp)), zero_sub, EReal.neg_top, Ideal.exp_bot, zero_mul]
  | coe r =>
    induction b using EReal.rec with
    | bot => exact absurd hb (by simp)
    | top => rw [EReal.coe_add_top, zero_sub (⊤ : EReal), EReal.neg_top, Ideal.exp_bot, mul_zero]
    | coe t =>
      rw [← EReal.coe_add, zero_sub, zero_sub, zero_sub, ← EReal.coe_neg, ← EReal.coe_neg, ← EReal.coe_neg,
        Ideal.exp_coe, Ideal.exp_coe, Ideal.exp_coe, ← EReal.coe_mul, EReal.coe_eq_coe_iff, neg_add, Real.exp_add]

/-- The same over a finite sum: the exponential of minus a sum of terms that are not negative is the
    product of the exponentials. -/
theorem exp_neg_sum {ι : Type} (s : Finset ι) (f : ι → EReal) (hf : ∀ i, 0 ≤ f i) :
    Ideal.exp (0 - ∑ i ∈ s, f i) = ∏ i ∈ s, Ideal.exp (0 - f i) := by
  classical
  induction s using Finset.induction_on with
  | empty => rw [Finset.sum_empty, Finset.prod_empty, sub_zero, ← EReal.coe_zero, Ideal.exp_coe, Real.exp_zero, EReal.coe_one]
  | insert i s hi ih =>
    rw [Finset.sum_insert hi, Finset.prod_insert hi, exp_neg_add (hf i) (Finset.sum_nonneg fun j _ => hf j), ih]

end Cert.Tree

end
-- ==== Proof.Tree.lean ====
/- The complete binary tree of depth 8 over 255 inner nodes and 256 leaves: which node the path to a leaf
   visits at each level, and in which direction it leaves it. -/
module

public import Mathlib.Data.Nat.Notation
public import Mathlib.Data.Fin.Basic
public import Mathlib.Data.Fintype.Basic
public import Mathlib.Tactic.IntervalCases

@[expose] public section

namespace Cert.Tree

/-- The inner node, numbered level by level from the root 0, that the path to leaf `r` visits at level `l`. -/
def node (r l : Nat) : Nat := (r + 256) / 2 ^ (8 - l) - 1

/-- The direction in which the path to leaf `r` leaves its node of level `l`: 0 to the left, 1 to the right. -/
def dir (r l : Nat) : Nat := r / 2 ^ (7 - l) % 2

/-- Whether the path to leaf `r` leaves node `n` in direction `d`, in closed form: node `n` lies at level
    `log2 (n + 1)`, and its child in direction `d` has heap number `2 (n + 1) + d`. -/
def step (d n r : Nat) : Bool := Nat.beq ((r + 256) / 2 ^ (7 - Nat.log2 (n + 1))) (2 * (n + 1) + d)

/-- Every node of a path is one of the 255 inner nodes. -/
theorem node_lt : ∀ (r : Fin 256) (l : Fin 8), node r l < 255 := by decide +kernel

/-- A direction is 0 or 1. -/
theorem dir_cases (r l : Nat) : dir r l = 0 ∨ dir r l = 1 := Nat.mod_two_eq_zero_or_one _

/-- The nodes of a path are distinct, level by level. -/
theorem node_inj : ∀ (r : Fin 256) (k l : Fin 8), node r k = node r l → k = l := by decide +kernel

/-- Each step of a path is one by the closed form. -/
theorem step_node : ∀ (r : Fin 256) (l : Fin 8), step (dir r l) (node r l) r = true := by decide +kernel

/-- The closed form says what the path says: the leaf's path visits the node at some level and leaves it so. -/
theorem step_iff (d : Nat) (hd : d < 2) (n : Fin 255) (r : Fin 256) :
    step d n r = true ↔ ∃ l : Fin 8, node r l = n ∧ dir r l = d := by
  constructor
  · intro h
    have hn := n.isLt
    have hL : Nat.log2 (n + 1) < 8 := (Nat.log2_lt (by omega)).2 (by omega)
    refine ⟨⟨Nat.log2 (n + 1), hL⟩, ?_⟩
    have h' : ((r : Nat) + 256) / 2 ^ (7 - Nat.log2 (n + 1)) = 2 * (n + 1) + d := Nat.eq_of_beq_eq_true h
    simp only [node, dir]
    generalize Nat.log2 ((n : Nat) + 1) = L at h' hL ⊢
    interval_cases L <;> omega
  · rintro ⟨l, hn, rfl⟩
    rw [← hn]
    exact step_node r l

end Cert.Tree
-- ==== Proof.Paths.lean ====
/- The mathematics of the soft decision tree: the exponential of minus the sum, over all nodes, of the softplus
   terms that a leaf's path selects is the product, over the path's eight steps, of the step probabilities. -/
module

public import proofs.«01_k».proof.Proof.Softplus
public import proofs.«01_k».proof.Proof.Tree

@[expose] public section

noncomputable section

namespace Cert.Tree

open Idealize.ShloMosaic

/-- The mark of node `n` and leaf `r` in the table of direction `d`: 1 where the leaf's path leaves the node in
    that direction, else 0. -/
def mark (d n r : Nat) : EReal := if step d n r = true then 1 else 0

/-- The node that the path to leaf `r` visits at level `l`, as one of the 255. -/
def pathNode (r : Fin 256) (l : Fin 8) : Fin 255 := ⟨node r l, node_lt r l⟩

/-- The probability of the step that the path to leaf `r` takes at level `l`, from the scores `z` of all nodes. -/
def stepProb (z : Fin 255 → EReal) (r : Fin 256) (l : Fin 8) : EReal :=
  if dir r l = 0 then prob (z (pathNode r l)) else 1 - prob (z (pathNode r l))

/-- A term at node `n`, times the node's mark, is spread over the levels: it stands at the one level, if any, at
    which the path visits the node and leaves it in direction `d`. -/
theorem mark_levels (d : Nat) (hd : d < 2) (r : Fin 256) (n : Fin 255) (a : EReal) :
    a * mark d n r = ∑ l : Fin 8, if pathNode r l = n ∧ dir r l = d then a else 0 := by
  by_cases h : step d n r = true
  · obtain ⟨k, hk, hdk⟩ := (step_iff d hd n r).1 h
    rw [mark, if_pos h, mul_one, Finset.sum_eq_single k]
    · rw [if_pos ⟨Fin.ext hk, hdk⟩]
    · intro l _ hl
      refine if_neg fun hh => hl (node_inj r l k ?_)
      exact (congrArg Fin.val hh.1).trans hk.symm
    · exact fun hh => absurd (Finset.mem_univ k) hh
  · rw [mark, if_neg h, mul_zero, eq_comm]
    refine Finset.sum_eq_zero fun l _ => if_neg fun hh => h ?_
    exact (step_iff d hd n r).2 ⟨l, congrArg Fin.val hh.1, hh.2⟩

/-- The sum of `f` over all nodes, each times its mark, is the sum over the levels of the path that leave their
    node in direction `d`. -/
theorem mark_sum (d : Nat) (hd : d < 2) (r : Fin 256) (f : Fin 255 → EReal) :
    ∑ n, f n * mark d n r = ∑ l : Fin 8, if dir r l = d then f (pathNode r l) else 0 := by
  rw [Finset.sum_congr rfl fun n _ => mark_levels d hd r n (f n), Finset.sum_comm]
  refine Finset.sum_congr rfl fun l _ => ?_
  by_cases h : dir r l = d
  · simp [h]
  · simp [h]

/-- The left terms at the nodes left to the left and the right terms at the nodes left to the right: one term per
    level. -/
theorem path_sum (z : Fin 255 → EReal) (r : Fin 256) :
    ∑ n, softLeft (z n) * mark 0 n r + ∑ n, softRight (z n) * mark 1 n r
      = ∑ l : Fin 8, if dir r l = 0 then softLeft (z (pathNode r l)) else softRight (z (pathNode r l)) := by
  rw [mark_sum 0 (by decide), mark_sum 1 (by decide), ← Finset.sum_add_distrib]
  refine Finset.sum_congr rfl fun l _ => ?_
  rcases dir_cases r l with h | h
  · simp [h]
  · simp [h]

/-- The exponential of minus that sum is the probability of the path. -/
theorem exp_path_sum (z : Fin 255 → EReal) (r : Fin 256) :
    Ideal.exp (0 - (∑ n, softLeft (z n) * mark 0 n r + ∑ n, softRight (z n) * mark 1 n r))
      = ∏ l : Fin 8, stepProb z r l := by
  rw [path_sum, exp_neg_sum]
  · refine Finset.prod_congr rfl fun l _ => ?_
    unfold stepProb
    split_ifs
    · exact exp_softLeft _
    · exact exp_softRight _
  · intro l
    split_ifs
    · exact softLeft_nonneg _
    · exact softRight_nonneg _

end Cert.Tree

end
-- ==== Proof.Block.lean ====
/- What one block of the kernel computes: its value at row `p` and leaf `r`, in terms of the node scores. -/
module

public import proofs.«01_k».proof.Proof.Gen.KernelIdeal.Value
public import proofs.«01_k».proof.Proof.Paths
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Block

open Idealize.ShloMosaic Idealize.ShloMosaic.TcCoe Idealize.SL.Sem
open Cert.KernelIdeal Cert.KernelIdeal.Gen Cert.Tree

/-- The block's value at row `p` and leaf `r`: the exponential of minus the marked sum of softplus terms. -/
theorem payload (x : FVec Ideal S2048x2048 .f32) (w : FVec Ideal S2048x255 .f32) (b : FVec Ideal S1x255 .f32)
    (a0 a1 : FVec Ideal S255x256 .f32) (p : Fin 2048) (r : Fin 256) :
    k0_pay1 (F := Ideal) x w b a0 a1 (ix2 p r)
      = Ideal.exp (0 - (∑ n : Fin 255, softLeft (∑ k : Fin 2048, x (ix2 p k) * w (ix2 k n) + b (ix2 0 n)) * a0 (ix2 n r)
          + ∑ n : Fin 255, softRight (∑ k : Fin 2048, x (ix2 p k) * w (ix2 k n) + b (ix2 0 n)) * a1 (ix2 n r))) := by
  pointwise [k0_pay1, softLeft, softRight]
  rfl

end Cert.KernelIdeal.Block

end
-- ==== Proof.Leaves.lean ====
/- The value both programs compute: for every row of the input, the probability of reaching each leaf. -/
module

public import proofs.«01_k».proof.Proof.Paths
public import Idealize.ShloMosaic.Lib.Pointwise

@[expose] public section

noncomputable section

namespace Cert.Tree

open Idealize.ShloMosaic

/-- The score of node `n` for row `i` of the input: the row's product with the node's weights, plus its bias. -/
def score (x : FVec Ideal ⟨2, ![8192, 2048]⟩ .f32) (w : FVec Ideal ⟨2, ![2048, 255]⟩ .f32)
    (b : FVec Ideal ⟨1, ![255]⟩ .f32) (i : Fin 8192) (n : Fin 255) : EReal :=
  ∑ k : Fin 2048, x (ix2 i k) * w (ix2 k n) + b (ix1 n)

/-- The probability that row `j 0` of the input reaches leaf `j 1`: the product over the eight levels. -/
def leafProb (x : FVec Ideal ⟨2, ![8192, 2048]⟩ .f32) (w : FVec Ideal ⟨2, ![2048, 255]⟩ .f32)
    (b : FVec Ideal ⟨1, ![255]⟩ .f32) : FVec Ideal ⟨2, ![8192, 256]⟩ .f32 :=
  fun j => ∏ l : Fin 8, stepProb (score x w b (j 0)) (j 1) l

end Cert.Tree

end
-- ==== Proof.Digits.lean ====
/- Words of a table stored row by row: a table of 255 × 256 words given by a closed formula, written as a
   selection by the digits of the entry's number to base 128. -/
module

public import proofs.«01_k».proof.Proof.Tree
public import Mathlib.Tactic.IntervalCases

@[expose] public section

namespace Cert.Tree

/-- The float 1 or 0 by `step`, as the word at place `i` of a table of rows of 256. -/
def word (d i : Nat) : BitVec 32 := bif step d (i / 256) (i % 256) then 0x3F800000#32 else 0x00000000#32

/-- The value of `f` at a digit below 4, chosen arm by arm; 0 past the last arm. -/
def arms4 (f : Nat → BitVec 32) (x : Nat) : BitVec 32 := match x with
  | 0 => f 0 | 1 => f 1 | 2 => f 2 | 3 => f 3
  | _ => 0#32

/-- The value of `f` at a digit below 126, chosen arm by arm; 0 past the last arm. -/
def arms126 (f : Nat → BitVec 32) (x : Nat) : BitVec 32 := match x with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125
  | _ => 0#32

/-- The value of `f` at a digit below 128, chosen arm by arm; 0 past the last arm. -/
def arms128 (f : Nat → BitVec 32) (x : Nat) : BitVec 32 := match x with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#32

/-- At a digit below 4 the selection is the function's value. -/
theorem arms4_apply (f : Nat → BitVec 32) (x : Nat) (h : x < 4) : arms4 f x = f x := by
  interval_cases x <;> rfl

/-- At a digit below 126 the selection is the function's value. -/
theorem arms126_apply (f : Nat → BitVec 32) (x : Nat) (h : x < 126) : arms126 f x = f x := by
  interval_cases x <;> rfl

/-- At a digit below 128 the selection is the function's value. -/
theorem arms128_apply (f : Nat → BitVec 32) (x : Nat) (h : x < 128) : arms128 f x = f x := by
  interval_cases x <;> rfl

/-- The word at node `n` and leaf `r` is found at place `256 n + r`. -/
theorem word_at (d n r : Nat) (hr : r < 256) :
    word d (256 * n + r) = bif step d n r then 0x3F800000#32 else 0x00000000#32 := by
  have h1 : (256 * n + r) / 256 = n := by omega
  have h2 : (256 * n + r) % 256 = r := by omega
  rw [word, h1, h2]

end Cert.Tree
-- ==== Proof.LeftTable.lean ====
/- The kernel's table of steps to the left, 255 × 256 words: the word at node `n` and leaf `r` is the float 1
   where the path to the leaf leaves the node to the left, else 0. -/
module

public import proofs.«01_k».proof.KernelIdeal
public import proofs.«01_k».proof.Proof.Digits

@[expose] public section

set_option maxRecDepth 16384

namespace Cert.KernelIdeal.Tables

open Cert.KernelIdeal Cert.Tree

set_option maxHeartbeats 2000000 in
/-- Words 0 to 16383, all compared. -/
theorem left_part0 (i : Nat) :
    lit0t1_0 i = arms128 (fun b => arms128 (fun c => word 0 (128 * b + c)) (i % 128)) (i / 128 % 128) := rfl

set_option maxHeartbeats 2000000 in
/-- Words 16384 to 32767, all compared. -/
theorem left_part1 (i : Nat) :
    lit0t1_1 i = arms128 (fun b => arms128 (fun c => word 0 (128 * (128 + b) + c)) (i % 128)) (i / 128 % 128) := rfl

set_option maxHeartbeats 2000000 in
/-- Words 32768 to 49151, all compared. -/
theorem left_part2 (i : Nat) :
    lit0t1_2 i = arms128 (fun b => arms128 (fun c => word 0 (128 * (256 + b) + c)) (i % 128)) (i / 128 % 128) := rfl

set_option maxHeartbeats 2000000 in
/-- Words 49152 to 65279, all compared. -/
theorem left_part3 (i : Nat) :
    lit0t1_3 i = arms126 (fun b => arms128 (fun c => word 0 (128 * (384 + b) + c)) (i % 128)) (i / 128 % 128) := rfl

/-- The word at place `i` of the table. -/
theorem left_all (i : Nat) (h : i < 65280) : lit0t i = word 0 i := by
  have h4 : i / 16384 < 4 := by omega
  have hc : i % 128 < 128 := Nat.mod_lt _ (by decide)
  have hb : i / 128 % 128 < 128 := Nat.mod_lt _ (by decide)
  have split : lit0t i = arms4 (fun a => if a = 0 then lit0t1_0 i else if a = 1 then lit0t1_1 i
      else if a = 2 then lit0t1_2 i else lit0t1_3 i) (i / 16384) := rfl
  rw [split, arms4_apply _ _ h4, left_part0, left_part1, left_part2, left_part3]
  split_ifs with h0 h1 h2
  · rw [arms128_apply _ _ hb, arms128_apply _ _ hc]; congr 1; omega
  · rw [arms128_apply _ _ hb, arms128_apply _ _ hc]; congr 1; omega
  · rw [arms128_apply _ _ hb, arms128_apply _ _ hc]; congr 1; omega
  · have hb' : i / 128 % 128 < 126 := by omega
    rw [arms126_apply _ _ hb', arms128_apply _ _ hc]; congr 1; omega

/-- The word at node `n` and leaf `r`. -/
theorem left_word (n : Fin 255) (r : Fin 256) :
    lit0t (256 * n + r) = bif step 0 n r then 0x3F800000#32 else 0x00000000#32 := by
  rw [left_all _ (by omega), word_at _ _ _ r.isLt]

end Cert.KernelIdeal.Tables
-- ==== Proof.RightTable.lean ====
/- The kernel's table of steps to the right, 255 × 256 words: the word at node `n` and leaf `r` is the float 1
   where the path to the leaf leaves the node to the right, else 0. -/
module

public import proofs.«01_k».proof.KernelIdeal
public import proofs.«01_k».proof.Proof.Digits

@[expose] public section

set_option maxRecDepth 16384

namespace Cert.KernelIdeal.Tables

open Cert.KernelIdeal Cert.Tree

set_option maxHeartbeats 2000000 in
/-- Words 0 to 16383, all compared. -/
theorem right_part0 (i : Nat) :
    lit1t1_0 i = arms128 (fun b => arms128 (fun c => word 1 (128 * b + c)) (i % 128)) (i / 128 % 128) := rfl

set_option maxHeartbeats 2000000 in
/-- Words 16384 to 32767, all compared. -/
theorem right_part1 (i : Nat) :
    lit1t1_1 i = arms128 (fun b => arms128 (fun c => word 1 (128 * (128 + b) + c)) (i % 128)) (i / 128 % 128) := rfl

set_option maxHeartbeats 2000000 in
/-- Words 32768 to 49151, all compared. -/
theorem right_part2 (i : Nat) :
    lit1t1_2 i = arms128 (fun b => arms128 (fun c => word 1 (128 * (256 + b) + c)) (i % 128)) (i / 128 % 128) := rfl

set_option maxHeartbeats 2000000 in
/-- Words 49152 to 65279, all compared. -/
theorem right_part3 (i : Nat) :
    lit1t1_3 i = arms126 (fun b => arms128 (fun c => word 1 (128 * (384 + b) + c)) (i % 128)) (i / 128 % 128) := rfl

/-- The word at place `i` of the table. -/
theorem right_all (i : Nat) (h : i < 65280) : lit1t i = word 1 i := by
  have h4 : i / 16384 < 4 := by omega
  have hc : i % 128 < 128 := Nat.mod_lt _ (by decide)
  have hb : i / 128 % 128 < 128 := Nat.mod_lt _ (by decide)
  have split : lit1t i = arms4 (fun a => if a = 0 then lit1t1_0 i else if a = 1 then lit1t1_1 i
      else if a = 2 then lit1t1_2 i else lit1t1_3 i) (i / 16384) := rfl
  rw [split, arms4_apply _ _ h4, right_part0, right_part1, right_part2, right_part3]
  split_ifs with h0 h1 h2
  · rw [arms128_apply _ _ hb, arms128_apply _ _ hc]; congr 1; omega
  · rw [arms128_apply _ _ hb, arms128_apply _ _ hc]; congr 1; omega
  · rw [arms128_apply _ _ hb, arms128_apply _ _ hc]; congr 1; omega
  · have hb' : i / 128 % 128 < 126 := by omega
    rw [arms126_apply _ _ hb', arms128_apply _ _ hc]; congr 1; omega

/-- The word at node `n` and leaf `r`. -/
theorem right_word (n : Fin 255) (r : Fin 256) :
    lit1t (256 * n + r) = bif step 1 n r then 0x3F800000#32 else 0x00000000#32 := by
  rw [right_all _ (by omega), word_at _ _ _ r.isLt]

end Cert.KernelIdeal.Tables
-- ==== Proof.Marks.lean ====
/- The kernel's two constant tables, read at node `n` and leaf `r`: the marks of the steps. -/
module

public import proofs.«01_k».proof.Proof.LeftTable
public import proofs.«01_k».proof.Proof.RightTable
public import proofs.«01_k».proof.Proof.Paths
public import Idealize.ShloMosaic.Lib.Pointwise

@[expose] public section

noncomputable section

namespace Cert.KernelIdeal.Tables

open Idealize.ShloMosaic Cert.KernelIdeal Cert.Tree

/-- Node `n` and leaf `r` stand at place `256 n + r` of a table. -/
theorem place (n : Fin 255) (r : Fin 256) (h : 256 * n.val + r.val < 65280) :
    S255x256.rowMajor (ix2 n r) = ⟨256 * n + r, h⟩ := by
  refine Fin.ext ?_
  rw [Shape.rowMajor_val_two]
  show n.val * 256 + r.val = 256 * n.val + r.val
  omega

/-- The word of the float 1 or 0, read as a number. -/
theorem mark_bits (d n r : Nat) :
    Ideal.ofBits .f32 (bif step d n r then 0x3F800000#32 else 0x00000000#32) = mark d n r := by
  unfold mark
  cases step d n r
  · exact Ideal.ofBits_zero_f32
  · exact Ideal.ofBits_one_f32

/-- The first table holds the marks of the steps to the left. -/
theorem left_mark (n : Fin 255) (r : Fin 256) :
    FloatOps.ofBits (F := Ideal) .f32 (lit0 (S255x256.rowMajor (ix2 n r))) = mark 0 n r := by
  rw [place n r (by omega)]
  exact (congrArg (Ideal.ofBits .f32) (left_word n r)).trans (mark_bits 0 n r)

/-- The second table holds the marks of the steps to the right. -/
theorem right_mark (n : Fin 255) (r : Fin 256) :
    FloatOps.ofBits (F := Ideal) .f32 (lit1 (S255x256.rowMajor (ix2 n r))) = mark 1 n r := by
  rw [place n r (by omega)]
  exact (congrArg (Ideal.ofBits .f32) (right_word n r)).trans (mark_bits 1 n r)

end Cert.KernelIdeal.Tables

end
-- ==== Proof.Array.lean ====
/- What the kernel's result array holds after the run: the leaf probabilities of the arguments. -/
module

public import proofs.«01_k».proof.Proof.Block
public import proofs.«01_k».proof.Proof.Leaves
public import proofs.«01_k».proof.Proof.Marks

@[expose] public section

set_option maxRecDepth 16384

noncomputable section

namespace Cert.KernelIdeal.Result

open Idealize.ShloMosaic Idealize.ShloMosaic.TcCoe Idealize.SL.Sem
open Idealize.ShloMosaic.Pipeline (Dat)
open Cert.KernelIdeal Cert.KernelIdeal.Gen Cert.KernelIdeal.Tables Cert.Tree

variable (m : (ℓ : Loc nD τ sig) → Buf (Elt Ideal) ℓ)

/-- Where the windows stand at each grid point: the input rows and the result rows move with the point, the rest stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ t.val < 4 :=
  (by decide +kernel : ∀ t : Fin grid0.N, _)

/-- Block `t` of the input holds its rows from `2048 t` on. -/
theorem iblk_x (c : Dev nD) (t : Fin cfg0.N) (p k : Fin 2048) (h : t.val * 2048 + p.val < 8192) :
    iblk m c 0 t (ix2 p k) = m ((c : Thread nD τ).loc main_arg0) (ix2 ⟨t.val * 2048 + p.val, h⟩ k) := by
  blk_ext [iblk, V, idx t]

/-- The weights' block is the whole array. -/
theorem iblk_w (c : Dev nD) (t : Fin cfg0.N) (k : Fin 2048) (n : Fin 255) :
    iblk m c 1 t (ix2 k n) = m ((c : Thread nD τ).loc main_arg1) (ix2 k n) := by
  blk_ext [iblk, V, idx t]

/-- The bias's block is the whole array, laid out as one row. -/
theorem iblk_b (c : Dev nD) (t : Fin cfg0.N) (n : Fin 255) :
    iblk m c 2 t (ix2 0 n) = m ((c : Thread nD τ).loc main_arg2) (ix1 n) := by
  blk_simp [iblk, idx t]
  entry_read
  pointwise
  blk_ext [idx t]

/-- The first table's block holds the marks of the steps to the left. -/
theorem iblk_left (c : Dev nD) (t : Fin cfg0.N) (n : Fin 255) (r : Fin 256) :
    iblk m c 3 t (ix2 n r) = mark 0 n r := by
  blk_simp [iblk, idx t]
  entry_read
  refine Eq.trans (congrArg (fun j => FloatOps.ofBits (F := Ideal) .f32 (lit0 (S255x256.rowMajor j))) ?_) (left_mark n r)
  blk_ext [idx t]

/-- The second table's block holds the marks of the steps to the right. -/
theorem iblk_right (c : Dev nD) (t : Fin cfg0.N) (n : Fin 255) (r : Fin 256) :
    iblk m c 4 t (ix2 n r) = mark 1 n r := by
  blk_simp [iblk, idx t]
  entry_read
  refine Eq.trans (congrArg (fun j => FloatOps.ofBits (F := Ideal) .f32 (lit1 (S255x256.rowMajor j))) ?_) (right_mark n r)
  blk_ext [idx t]

/-- The block's value at row `p` and leaf `r` is the leaf's probability for row `2048 t + p` of the input. -/
theorem point (c : Dev nD) (t : Fin cfg0.N) (p : Fin 2048) (r : Fin 256) (h : t.val * 2048 + p.val < 8192) :
    k0_pay1 (F := Ideal) (iblk m c 0 t) (iblk m c 1 t) (iblk m c 2 t) (iblk m c 3 t) (iblk m c 4 t) (ix2 p r)
      = leafProb (m ((c : Thread nD τ).loc main_arg0)) (m ((c : Thread nD τ).loc main_arg1))
          (m ((c : Thread nD τ).loc main_arg2)) (ix2 ⟨t.val * 2048 + p.val, h⟩ r) := by
  refine (Block.payload _ _ _ _ _ p r).trans ?_
  have hz : ∀ n : Fin 255, (∑ k : Fin 2048, (show FVec Ideal S2048x2048 .f32 from iblk m c 0 t) (ix2 p k)
        * (show FVec Ideal S2048x255 .f32 from iblk m c 1 t) (ix2 k n)
        + (show FVec Ideal S1x255 .f32 from iblk m c 2 t) (ix2 0 n))
      = score (m ((c : Thread nD τ).loc main_arg0)) (m ((c : Thread nD τ).loc main_arg1))
          (m ((c : Thread nD τ).loc main_arg2)) ⟨t.val * 2048 + p.val, h⟩ n := by
    intro n
    exact congrArg₂ (· + ·) (Finset.sum_congr rfl fun k _ => congrArg₂ (· * ·) (iblk_x m c t p k h) (iblk_w m c t k n))
      (iblk_b m c t n)
  refine Eq.trans (congrArg (fun s => Ideal.exp (0 - s)) (congrArg₂ (· + ·)
    (Finset.sum_congr rfl fun n _ => congrArg₂ (· * ·) (congrArg softLeft (hz n)) (iblk_left m c t n r))
    (Finset.sum_congr rfl fun n _ => congrArg₂ (· * ·) (congrArg softRight (hz n)) (iblk_right m c t n r)))) ?_
  exact exp_path_sum _ r

/-- The result array after the run holds the leaf probabilities of the arguments. -/
theorem final (c : Dev nD) : (dats m 0 c).arrAt 5 (cfgs 0).N
    = leafProb (m ((c : Thread nD τ).loc main_arg0)) (m ((c : Thread nD τ).loc main_arg1))
        (m ((c : Thread nD τ).loc main_arg2)) := by
  refine (dats m 0 c).arrAt_eq_of_covers 5 _ (by decide +kernel) fun t _ y => ?_
  have ht : t.val < 4 := (idx t).2.2.2.2.2.2
  blk_simp
  rw [after0_5]
  frame_out
  idx_vars y
  refine (point m c t y0 y1 (by omega)).trans (congrArg (leafProb _ _ _) ?_)
  blk_ext [idx t]

end Cert.KernelIdeal.Result

end
-- ==== Proof.RouteTables.lean ====
/- The reference's two constant tables of 256 × 8 words: the nodes of each leaf's path and the directions in which
   the path leaves them. -/
module

public import proofs.«01_k».proof.ReferenceIdeal
public import proofs.«01_k».proof.Proof.Tree
public import Idealize.ShloMosaic.Lib.Pointwise

@[expose] public section

noncomputable section

namespace Cert.ReferenceIdeal.Tables

open Idealize.ShloMosaic Cert.ReferenceIdeal Cert.Tree

/-- Leaf `r` and level `l` stand at place `8 r + l` of a table. -/
theorem place (r : Fin 256) (l : Fin 8) (h : 8 * r.val + l.val < 2048) :
    S256x8.rowMajor (ix2 r l) = ⟨8 * r + l, h⟩ := by
  refine Fin.ext ?_
  rw [Shape.rowMajor_val_two]
  show r.val * 8 + l.val = 8 * r.val + l.val
  omega

/-- The first table's words are the nodes' numbers. -/
theorem node_word : ∀ (r : Fin 256) (l : Fin 8), lit0t (8 * r + l) = BitVec.ofNat 32 (node r l) := by decide +kernel

/-- The second table's words are the directions, as floats. -/
theorem dir_word : ∀ (r : Fin 256) (l : Fin 8),
    lit1t (8 * r + l) = if dir r l = 0 then 0x00000000#32 else 0x3F800000#32 := by decide +kernel

/-- The first table at leaf `r` and level `l`: the path's node. -/
theorem node_at (r : Fin 256) (l : Fin 8) : lit0 (S256x8.rowMajor (ix2 r l)) = BitVec.ofNat 32 (node r l) := by
  rw [place r l (by omega)]
  exact node_word r l

/-- The second table at leaf `r` and level `l`: the path's direction. -/
theorem dir_at (r : Fin 256) (l : Fin 8) :
    FloatOps.ofBits (F := Ideal) .f32 (lit1 (S256x8.rowMajor (ix2 r l))) = if dir r l = 0 then (0 : EReal) else 1 := by
  rw [place r l (by omega)]
  refine (congrArg (Ideal.ofBits .f32) (dir_word r l)).trans ?_
  split_ifs
  · exact Ideal.ofBits_zero_f32
  · exact Ideal.ofBits_one_f32

end Cert.ReferenceIdeal.Tables

end
-- ==== Proof.Reference.lean ====
/- What the reference computes: at every row of the input and every leaf, the leaf's probability. -/
module

public import proofs.«01_k».proof.Proof.Gen.ReferenceIdeal.Run
public import proofs.«01_k».proof.Proof.RouteTables
public import proofs.«01_k».proof.Proof.Leaves
public import Idealize.ShloMosaic.Lib.Pointwise
public import Idealize.ShloMosaic.Lib.Claim

@[expose] public section

set_option maxRecDepth 16384

noncomputable section

namespace Cert.ReferenceIdeal.Result

open Idealize.ShloMosaic Idealize.ShloMosaic.TcCoe Idealize.SL.Sem
open Cert.ReferenceIdeal Cert.ReferenceIdeal.Gen Cert.ReferenceIdeal.Tables Cert.Tree

/-- The reference's sigmoids of all node scores. -/
def probs (x : FVec Ideal S8192x2048 .f32) (w : FVec Ideal S2048x255 .f32) (b : FVec Ideal S255 .f32) :
    FVec Ideal S8192x255 .f32 :=
  Host.divf (broadcastInDim S8192x255 ![] bcast_S_S8192x255 (constant S_ .f32 0x3F800000#32))
    (addf (broadcastInDim S8192x255 ![] bcast_S_S8192x255 (constant S_ .f32 0x3F800000#32))
      (Host.exp (Host.negf (addf (Host.dotGeneral dot_S8192x2048_S2048x255_S8192x255_1_0_0_1_n_n none x w)
        (broadcastInDim S8192x255 ![0, 1] bcast_S1x255_S8192x255_0_1 (broadcastInDim S1x255 ![1] bcast_S255_S1x255_1 b))))))

/-- The reference's table of path nodes, as the places the sigmoids are taken from. -/
def places : IVec S256x8x1 32 :=
  broadcastInDim S256x8x1 ![0, 1] bcast_S256x8_S256x8x1_0_1
    (select (cmpi .slt (fun i => lit0 (S256x8.rowMajor i)) (broadcastInDim S256x8 ![] bcast_S_S256x8 (constantI S_ 32 0#32)))
      (addi (fun i => lit0 (S256x8.rowMajor i)) (broadcastInDim S256x8 ![] bcast_S_S256x8 (constantI S_ 32 255#32)))
      (fun i => lit0 (S256x8.rowMajor i)))

/-- The reference's table of directions. -/
def dirs : FVec Ideal S256x8 .f32 := fun i => FloatOps.ofBits .f32 (lit1 (S256x8.rowMajor i))

/-- The sigmoids at the nodes of every path. -/
def taken (x : FVec Ideal S8192x2048 .f32) (w : FVec Ideal S2048x255 .f32) (b : FVec Ideal S255 .f32) :
    FVec Ideal S8192x256x8 .f32 :=
  Host.gather gather_S8192x255_S256x8x1_S8192x256x8_0_1_n_n_1_2_81921 (probs x w b) places

/-- The step probabilities from the sigmoids `q` on the paths: `(1 - d) q + d (1 - q)`. -/
def steps (q : FVec Ideal S8192x256x8 .f32) (d : FVec Ideal S256x8 .f32) : FVec Ideal S8192x256x8 .f32 :=
  addf (mulf (broadcastInDim S8192x256x8 ![0, 1, 2] bcast_S1x256x8_S8192x256x8_0_1_2
        (broadcastInDim S1x256x8 ![1, 2] bcast_S256x8_S1x256x8_1_2
          (subf (broadcastInDim S256x8 ![] bcast_S_S256x8 (constant S_ .f32 0x3F800000#32)) d))) q)
    (mulf (broadcastInDim S8192x256x8 ![0, 1, 2] bcast_S1x256x8_S8192x256x8_0_1_2
        (broadcastInDim S1x256x8 ![1, 2] bcast_S256x8_S1x256x8_1_2 d))
      (subf (broadcastInDim S8192x256x8 ![] bcast_S_S8192x256x8 (constant S_ .f32 0x3F800000#32)) q))

/-- Level by level, the product of the step probabilities. -/
def product (s : FVec Ideal S8192x256x8 .f32) : FVec Ideal S8192x256 .f32 :=
  mulf (mulf (mulf (mulf (mulf (mulf (mulf
    (shapeCast _ (extractStridedSlice S8192x256x1 ![0, 0, 0] s slices_S8192x256x8_S8192x256x1_0_0_0) shapeCasts_S8192x256x1_S8192x256)
    (shapeCast _ (extractStridedSlice S8192x256x1 ![0, 0, 1] s slices_S8192x256x8_S8192x256x1_0_0_1) shapeCasts_S8192x256x1_S8192x256))
    (shapeCast _ (extractStridedSlice S8192x256x1 ![0, 0, 2] s slices_S8192x256x8_S8192x256x1_0_0_2) shapeCasts_S8192x256x1_S8192x256))
    (shapeCast _ (extractStridedSlice S8192x256x1 ![0, 0, 3] s slices_S8192x256x8_S8192x256x1_0_0_3) shapeCasts_S8192x256x1_S8192x256))
    (shapeCast _ (extractStridedSlice S8192x256x1 ![0, 0, 4] s slices_S8192x256x8_S8192x256x1_0_0_4) shapeCasts_S8192x256x1_S8192x256))
    (shapeCast _ (extractStridedSlice S8192x256x1 ![0, 0, 5] s slices_S8192x256x8_S8192x256x1_0_0_5) shapeCasts_S8192x256x1_S8192x256))
    (shapeCast _ (extractStridedSlice S8192x256x1 ![0, 0, 6] s slices_S8192x256x8_S8192x256x1_0_0_6) shapeCasts_S8192x256x1_S8192x256))
    (shapeCast _ (extractStridedSlice S8192x256x1 ![0, 0, 7] s slices_S8192x256x8_S8192x256x1_0_0_7) shapeCasts_S8192x256x1_S8192x256)

/-- The sigmoid of row `i` at node `n`. -/
theorem probs_at (x : FVec Ideal S8192x2048 .f32) (w : FVec Ideal S2048x255 .f32) (b : FVec Ideal S255 .f32)
    (i : Fin 8192) (n : Fin 255) : probs x w b (ix2 i n) = prob (score x w b i n) := by
  pointwise [probs, prob, score]

/-- A node's number is not negative, so the wrap of a negative place leaves it as it is. -/
theorem wrap_node : ∀ n : Fin 255, Scalar.select (IntOp.cmpi .slt (BitVec.ofNat 32 n) 0#32)
    (IntOp.addi (BitVec.ofNat 32 n) 255#32) (BitVec.ofNat 32 n) = BitVec.ofNat 32 n := by decide +kernel

/-- A node's number, read back from its word. -/
theorem node_toNat : ∀ n : Fin 255, (BitVec.ofNat 32 n).toInt.toNat = n := by decide +kernel

/-- The place of leaf `r` at level `l` is the path's node. -/
theorem places_at (r : Fin 256) (l : Fin 8) : places (ix3 r l 0) = BitVec.ofNat 32 (node r l) := by
  pointwise [places]
  rw [node_at]
  exact wrap_node ⟨node r l, node_lt r l⟩

/-- A column taken by number: the result at row `i`, leaf `r` and level `l` is the operand's at row `i` and the
    column of which `idx` gives the number at leaf `r` and level `l`. -/
theorem take_at (p : FVec Ideal S8192x255 .f32) (idx : IVec S256x8x1 32) (i : Fin 8192) (r : Fin 256) (l : Fin 8)
    (n : Fin 255) (h : (idx (ix3 r l 0)).toInt.toNat = n) :
    Host.gather gather_S8192x255_S256x8x1_S8192x256x8_0_1_n_n_1_2_81921 p idx (ix3 i r l) = p (ix2 i n) := by
  refine congrArg p (funext fun a => Fin.ext ?_)
  have hc : gather_S8192x255_S256x8x1_S8192x256x8_0_1_n_n_1_2_81921.siIdx (ix3 i r l) ⟨0, by decide⟩ = ix3 r l 0 := by
    funext e
    fin_cases e <;> rfl
  fin_cases a
  · show 0 + 0 + i.val = i.val
    omega
  · show min (idx (gather_S8192x255_S256x8x1_S8192x256x8_0_1_n_n_1_2_81921.siIdx (ix3 i r l) ⟨0, by decide⟩)).toInt.toNat 254
      + 0 + 0 = n.val
    rw [hc, h]
    omega

/-- A step probability: the sigmoid itself to the left, its complement to the right. -/
theorem steps_at (q : FVec Ideal S8192x256x8 .f32) (d : FVec Ideal S256x8 .f32) (i : Fin 8192) (r : Fin 256) (l : Fin 8) :
    steps q d (ix3 i r l) = (1 - d (ix2 r l)) * q (ix3 i r l) + d (ix2 r l) * (1 - q (ix3 i r l)) := by
  pointwise [steps]

/-- The product of the eight levels. -/
theorem product_at (s : FVec Ideal S8192x256x8 .f32) (i : Fin 8192) (r : Fin 256) :
    product s (ix2 i r) = ∏ l : Fin 8, s (ix3 i r l) := by
  rw [Fin.prod_univ_eight]
  pointwise [product]

/-- The reference's step probability of row `i`, leaf `r` and level `l`. -/
theorem step_at (x : FVec Ideal S8192x2048 .f32) (w : FVec Ideal S2048x255 .f32) (b : FVec Ideal S255 .f32)
    (i : Fin 8192) (r : Fin 256) (l : Fin 8) :
    steps (taken x w b) dirs (ix3 i r l) = stepProb (score x w b i) r l := by
  have hq : taken x w b (ix3 i r l) = prob (score x w b i (pathNode r l)) := by
    refine (take_at _ _ i r l (pathNode r l) ?_).trans (probs_at x w b i _)
    rw [places_at]
    exact node_toNat (pathNode r l)
  have hd : dirs (ix2 r l) = if dir r l = 0 then (0 : EReal) else 1 := dir_at r l
  rw [steps_at, hq, hd, stepProb]
  split_ifs
  · rw [sub_zero, one_mul, zero_mul, add_zero]
  · rw [← EReal.coe_one, ← EReal.coe_sub, sub_self, EReal.coe_zero, EReal.coe_one, zero_mul, one_mul, zero_add]

/-- The reference's result, from the arguments' contents: the product of the steps. -/
theorem result_eq (m : (ℓ : Loc nD τ sig) → Buf (Elt Ideal) ℓ) (c : Dev nD) :
    Value.res_out0 m c = product (steps (taken (m ((c.tc : Thread nD τ).loc main_arg0))
      (m ((c.tc : Thread nD τ).loc main_arg1)) (m ((c.tc : Thread nD τ).loc main_arg2))) dirs) := rfl

/-- The reference's result holds the leaf probabilities of the arguments. -/
theorem final (m : (ℓ : Loc nD τ sig) → Buf (Elt Ideal) ℓ) (c : Dev nD) :
    Value.res_out0 m c = leafProb (m ((c.tc : Thread nD τ).loc main_arg0)) (m ((c.tc : Thread nD τ).loc main_arg1))
      (m ((c.tc : Thread nD τ).loc main_arg2)) := by
  rw [result_eq]
  funext j
  idx_vars j
  rw [product_at]
  exact Finset.prod_congr rfl fun l _ => step_at _ _ _ j0 j1 l

end Cert.ReferenceIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel runs, leaves its arguments as they were and every semaphore counter at zero. -/
theorem frame_kernel : Cert.quiescent_Kernel := fun m ρ _ => Cert.Kernel.Gen.frame m ρ

/-- The same of the kernel over the extended reals. -/
theorem frame_ideal : Cert.quiescent_KernelIdeal := fun m ρ _ => Cert.KernelIdeal.Gen.frame m ρ

/-- The same of the reference, which declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel and the reference, from equal arguments, both end with the leaf probabilities of the arguments. -/
theorem equal_results : Cert.algebraic_KernelIdeal_ReferenceIdeal := by
  intro m ρ m' ρ' _ hagree
  refine ⟨fun c => (Cert.KernelIdeal.Gen.dats m 0 c).arrAt 5 (Cert.KernelIdeal.cfgs 0).N,
    Cert.KernelIdeal.Value.run_blocks (F := Ideal) m ρ, ?_⟩
  refine (θ_run Cert.ReferenceIdeal.defs _ _).mono (fun r h c => ⟨(h c).1.trans ?_, (h c).2⟩)
    (Cert.ReferenceIdeal.Value.run (F := Ideal) m' ρ')
  refine (Cert.ReferenceIdeal.Result.final m' c).trans (Eq.trans ?_ (Cert.KernelIdeal.Result.final m c).symm)
  rw [(hagree c).1, (hagree c).2.1, (hagree c).2.2]

/-- Everything the certificate claims. -/
theorem claim : Cert.Claim := ⟨Cert.Kernel.Gen.facts, Cert.KernelIdeal.Gen.facts, Cert.ReferenceIdeal.Gen.facts,
  frame_kernel, frame_ideal, frame_reference, trivial, equal_results⟩

end Cert.Proof

end
